-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x32 : Shape := ⟨2, ![8192, 32]⟩
abbrev S8192 : Shape := ⟨1, ![8192]⟩
abbrev S512x32 : Shape := ⟨2, ![512, 32]⟩
abbrev S512 : Shape := ⟨1, ![512]⟩
abbrev S2x512x128 : Shape := ⟨3, ![2, 512, 128]⟩
abbrev S1x512x128 : Shape := ⟨3, ![1, 512, 128]⟩
abbrev S512x128 : Shape := ⟨2, ![512, 128]⟩
abbrev S512x1 : Shape := ⟨2, ![512, 1]⟩
abbrev S128x32 : Shape := ⟨2, ![128, 32]⟩

abbrev nBuf : Space → Nat
  | .hbm => 3
  | .vmem => 7
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192, .i32⟩
  | .local _ .vmem, ⟨0, _⟩ => ⟨S512x32, .f32⟩
  | .local _ .vmem, ⟨1, _⟩ => ⟨S512x32, .f32⟩
  | .local _ .vmem, ⟨2, _⟩ => ⟨S8192x32, .f32⟩
  | .local _ .vmem, ⟨3, _⟩ => ⟨S512, .i32⟩
  | .local _ .vmem, ⟨4, _⟩ => ⟨S512, .i32⟩
  | .local _ .vmem, ⟨5, _⟩ => ⟨S2x512x128, .f32⟩
  | .local _ .vmem, ⟨6, _⟩ => ⟨S2x512x128, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v2 : Index := Scalar.indexCast v1
  let c0 : Index := 0#32
  let c0_0 : Index := 0#32
  ![v2.toNat, 0, 0]
def k0_off2 (i : grid0.Coords) : Fin 3 → Nat :=
  let arg0 : BitVec 32 := BitVec.ofNat 32 (i 0).val
  let c2_i32_202 : BitVec 32 := 2#32
  let v404 : BitVec 32 := Scalar.remsi arg0 c2_i32_202
  let v405 : Index := Scalar.indexCast v404
  let c0_203 : Index := 0#32
  let c0_204 : Index := 0#32
  ![v405.toNat, 0, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x32 : Shape := ⟨2, ![8192, 32]⟩
abbrev S32x8192 : Shape := ⟨2, ![32, 8192]⟩
abbrev S8192x8192 : Shape := ⟨2, ![8192, 8192]⟩
abbrev S_ : Shape := ⟨0, ![]⟩
abbrev S8192 : Shape := ⟨1, ![8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S32x8192, .f32⟩
  | .hbm, ⟨3, _⟩ => ⟨S8192x8192, .f32⟩
  | .hbm, ⟨4, _⟩ => ⟨S8192x8192, .i32⟩
  | .hbm, ⟨5, _⟩ => ⟨S_, .f32⟩
  | .hbm, ⟨6, _⟩ => ⟨S_, .i32⟩
  | .hbm, ⟨7, _⟩ => ⟨S8192, .f32⟩
  | .hbm, ⟨8, _⟩ => ⟨S8192, .i32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Proof.Scan.lean ====
/-
  What one grid point folds, as functions of the arrays: the sixty-four tiles of the second argument, the scores of a
  block of states against a tile, and the running best of the scores with the number of the tile that holds it.
-/
module

public import proofs.«01_k».proof.Proof.Gen.KernelIdeal.Skeleton
public import Idealize.ShloMosaic.Lib.WholeRead
public import Idealize.ShloMosaic.Lib.ValueIdxCore

@[expose] public section

noncomputable section

namespace Cert.Scan

open Idealize.ShloMosaic Idealize.ShloMosaic.ValueIdx Idealize.SL.Sem Cert.KernelIdeal

variable {F : FTy → Type} [FloatOps F]

/-- The 128 rows of an `8192 × 32` array from row `r` on (rows counted modulo 8192). -/
def rows (x : Vec F S8192x32 .f32) (r : ℕ) : Vec F S128x32 .f32 := fun a =>
  x (ix2 ⟨(r + (a 0).val) % 8192, Nat.mod_lt _ (by decide)⟩ (a 1))

/-- A load of 128 whole rows from a buffer that holds `x` reads those rows of `x`. -/
theorem readAt_rows {m : Memref sig .tc .vmem S8192x32 .f32} (h : m.IsWhole) (x : Vec F S8192x32 .f32) (r : ℕ)
    (inb : ∀ a, (![r, 0] : Fin 2 → ℕ) a + S128x32.size a ≤ S8192x32.size a) :
    View.readAt (Elt F) m.view (Rect.unit (s := S8192x32) ![r, 0] ![128, 32] inb).toLoadRect (h.unread x) = rows x r := by
  funext a
  rw [h.readAt_unread]
  have h0 := inb 0
  have ha : (a 0).val < 128 := (a 0).isLt
  have h1 : r + 128 ≤ 8192 := h0
  refine congrArg x (funext fun d => Fin.ext ?_)
  match d with
  | ⟨0, _⟩ => exact (show r + 1 * (a 0).val = (r + (a 0).val) % 8192 by omega)
  | ⟨1, _⟩ => exact (show 0 + 1 * (a 1).val = (a 1).val by omega)

/-- A load of a whole block of states reads it. -/
theorem readAt_states {m : Memref sig .tc .vmem S512x32 .f32} (h : m.IsWhole) (x : Vec F S512x32 .f32)
    (inb : ∀ a, (![0, 0] : Fin 2 → ℕ) a + S512x32.size a ≤ S512x32.size a) :
    View.readAt (Elt F) m.view (Rect.unit (s := S512x32) ![0, 0] ![512, 32] inb).toLoadRect (h.unread x) = x := by
  funext a
  rw [h.readAt_unread]
  refine congrArg x (funext fun d => Fin.ext ?_)
  match d with
  | ⟨0, _⟩ => exact (show 0 + 1 * (a 0).val = (a 0).val by omega)
  | ⟨1, _⟩ => exact (show 0 + 1 * (a 1).val = (a 1).val by omega)

/-- After a store of a whole block of numbers the buffer holds what was stored. -/
theorem read_numbers {m : Memref sig .tc .vmem S512 .i32} (f : BufTy.Contents (Elt F) m.view.ty)
    (inb : ∀ a, (![0] : Fin 1 → ℕ) a + S512.size a ≤ S512.size a) (w : Vec F S512 .i32) :
    m.view.read (Elt F) (m.view.writes (Elt F) f [⟨Rect.unit (s := S512) ![0] S512.size inb, w⟩]) = w := by
  funext a
  have ha : (Rect.unit (s := S512) ![0] S512.size inb).emb a = a := by
    refine funext fun d => Fin.ext ?_
    match d with
    | ⟨0, _⟩ => exact (show 0 + 1 * (a 0).val = (a 0).val by omega)
  exact (congrArg _ ha.symm).trans
    (View.read_writes_cons_emb (v := m.view) (f := f) (Rect.unit (s := S512) ![0] S512.size inb) w [] a)

/-- The scores of a block of 512 states against the 128 rows of a tile. -/
def score (v : Vec F S512x32 .f32) (t : Vec F S128x32 .f32) : FVec F S512x128 .f32 :=
  matmul dot_S512x32_S128x32_S512x128_1_1_0_0_n_n none v t (constant S512x128 .f32 0x00000000#32)

/-- The scores of a block of states against tile `j`, rows `128 j` to `128 j + 127`. -/
def scores (v : Vec F S512x32 .f32) (x : Vec F S8192x32 .f32) (j : ℕ) : FVec F S512x128 .f32 := score v (rows x (128 * j))

/-- The single precision pattern of a natural number below `2 ^ 24`. -/
def word (j : ℕ) : BitVec 32 :=
  if j = 0 then 0#32 else BitVec.ofNat 32 ((127 + Nat.log2 j) * 2 ^ 23 + (j - 2 ^ Nat.log2 j) * 2 ^ (23 - Nat.log2 j))

/-- The greatest score met in tiles `0` to `n`, at each state and lane. -/
def best (s : ℕ → FVec F S512x128 .f32) : ℕ → FVec F S512x128 .f32
  | 0 => s 0
  | n + 1 => maximumf (best s n) (s (n + 1))

/-- The number, as a float, of the tile that the greatest score was first met in. -/
def bestAt (s : ℕ → FVec F S512x128 .f32) : ℕ → FVec F S512x128 .f32
  | 0 => broadcast S512x128 (Scalar.ofBits .f32 (word 0))
  | n + 1 => select (cmpf .ogt (s (n + 1)) (best s n)) (broadcast S512x128 (Scalar.ofBits .f32 (word (n + 1)))) (bestAt s n)

/-- The number kept after tile `0`, read at a state and lane, -/
theorem bestAt_zero (s : ℕ → FVec F S512x128 .f32) (a : S512x128.Idx) : bestAt s 0 a = FloatOps.ofBits .f32 (word 0) := rfl

/-- and after tile `n + 1`. -/
theorem bestAt_succ (s : ℕ → FVec F S512x128 .f32) (n : ℕ) (a : S512x128.Idx) : bestAt s (n + 1) a
    = Scalar.select (FloatOps.cmpf .ogt (s (n + 1) a) (best s n a)) (FloatOps.ofBits .f32 (word (n + 1))) (bestAt s n a) := rfl

/-- Plane `n` (counted modulo two) of a two-plane buffer. -/
def plane (y : Vec F S2x512x128 .f32) (n : ℕ) : Vec F S1x512x128 .f32 := fun a =>
  y (ix3 ⟨n % 2, Nat.mod_lt _ (by decide)⟩ (a 1) (a 2))

/-- The offsets a grid point reads its two planes at: the plane the point before it wrote. -/
theorem off1_eq (i : grid0.Coords) : k0_off1 i = ![((i 0).val + 1) % 2, 0, 0] := by
  have h : ∀ n : Fin 17, (Scalar.indexCast (Scalar.remsi (Scalar.addi (BitVec.ofNat 32 n.val) 1#32) 2#32) : Index).toNat = (n.val + 1) % 2 := by
    decide
  unfold k0_off1
  exact congrArg (fun k => (![k, 0, 0] : Fin 3 → ℕ)) (h (i 0))

/-- The offsets a grid point writes its two planes at. -/
theorem off2_eq (i : grid0.Coords) : k0_off2 i = ![(i 0).val % 2, 0, 0] := by
  have h : ∀ n : Fin 17, (Scalar.indexCast (Scalar.remsi (BitVec.ofNat 32 n.val) 2#32) : Index).toNat = n.val % 2 := by
    decide
  unfold k0_off2
  exact congrArg (fun k => (![k, 0, 0] : Fin 3 → ℕ)) (h (i 0))

/-- The index of a plane's element in the two-plane buffer. -/
theorem plane_idx {off : Fin 3 → ℕ} {n : ℕ} (hoff : off = ![n % 2, 0, 0])
    (inb : ∀ a, off a + S1x512x128.size a ≤ S2x512x128.size a) (a : S1x512x128.Idx) :
    (Rect.unit (s := S2x512x128) off S1x512x128.size inb).emb a = ix3 ⟨n % 2, Nat.mod_lt _ (by decide)⟩ (a 1) (a 2) := by
  subst hoff
  have ha : (a 0).val < 1 := (a 0).isLt
  refine funext fun d => Fin.ext ?_
  match d with
  | ⟨0, _⟩ => exact (show n % 2 + 1 * (a 0).val = n % 2 by omega)
  | ⟨1, _⟩ => exact (show 0 + 1 * (a 1).val = (a 1).val by omega)
  | ⟨2, _⟩ => exact (show 0 + 1 * (a 2).val = (a 2).val by omega)

/-- A load of one plane from a buffer that holds `y` reads that plane of `y`. -/
theorem readAt_plane {m : Memref sig .tc .vmem S2x512x128 .f32} (h : m.IsWhole) (y : Vec F S2x512x128 .f32) {off : Fin 3 → ℕ} {n : ℕ}
    (hoff : off = ![n % 2, 0, 0]) (inb : ∀ a, off a + S1x512x128.size a ≤ S2x512x128.size a) :
    View.readAt (Elt F) m.view (Rect.unit (s := S2x512x128) off S1x512x128.size inb).toLoadRect (h.unread y) = plane y n := by
  funext a
  rw [h.readAt_unread]
  exact congrArg y (plane_idx hoff inb a)

/-- After a store of one plane the buffer's plane is what was stored. -/
theorem plane_writes {m : Memref sig .tc .vmem S2x512x128 .f32} (f : BufTy.Contents (Elt F) m.view.ty) {off : Fin 3 → ℕ} {n : ℕ}
    (hoff : off = ![n % 2, 0, 0]) (inb : ∀ a, off a + S1x512x128.size a ≤ S2x512x128.size a) (w : Vec F S1x512x128 .f32) :
    plane (m.view.read (Elt F) (m.view.writes (Elt F) f [⟨Rect.unit (s := S2x512x128) off S1x512x128.size inb, w⟩])) n = w := by
  funext a
  exact (congrArg _ (plane_idx hoff inb a).symm).trans (View.read_writes_cons_emb (v := m.view) (f := f) (Rect.unit (s := S2x512x128) off S1x512x128.size inb) w [] a)

/-- A block of 512 × 128 values as one plane. -/
def lift (g : FVec F S512x128 .f32) : FVec F S1x512x128 .f32 := shapeCast S1x512x128 g Cert.KernelIdeal.Gen.shapeCasts_S512x128_S1x512x128

end Cert.Scan

end
-- ==== Proof.Run.lean ====
/-
  What one grid point does: the body run once, at any grid point, on whole buffers.
-/
module

public import proofs.«01_k».proof.Proof.Gen.KernelIdeal.Frame
public import proofs.«01_k».proof.Proof.Scan

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid point's body: on a block of states `x0`, the whole second argument `x1` and the two-plane buffers at `y0` and `y1`, it leaves
    the two arguments as they were, in the output block the numbers read off the planes that the point before wrote, and in its own
    planes the greatest scores of its block and the numbers of the tiles that hold them. -/
theorem kernelRun (c : Dev nD) (i : grid0.Coords) (arg1 : Memref sig .tc .vmem S512x32 .f32) (harg1 : arg1.IsWhole) (arg2 : Memref sig .tc .vmem S8192x32 .f32) (harg2 : arg2.IsWhole) (arg3 : Memref sig .tc .vmem S512 .i32) (harg3 : arg3.IsWhole) (arg4 : Memref sig .tc .vmem S2x512x128 .f32) (harg4 : arg4.IsWhole) (arg5 : Memref sig .tc .vmem S2x512x128 .f32) (harg5 : arg5.IsWhole)
    (x0 : Vec F S512x32 .f32) (x1 : Vec F S8192x32 .f32) (y0 y1 : Vec F S2x512x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare y0 ∗ owns (c : Thread nD τ) arg5 fullShare y1
            ∗ (iprop(owns (c : Thread nD τ) arg1 fullShare x0 ∗ owns (c : Thread nD τ) arg2 fullShare x1
                ∗ owns (c : Thread nD τ) arg3 fullShare (k0_pay5 (Scan.plane y0 ((i 0).val + 1)) (Scan.plane y1 ((i 0).val + 1)))
                ∗ (∃ d, ⌜Scan.plane d (i 0).val = Scan.lift (Scan.best (Scan.scores x0 x1) 63)⌝ ∗ owns (c : Thread nD τ) arg4 fullShare d)
                ∗ (∃ d, ⌜Scan.plane d (i 0).val = Scan.lift (Scan.bestAt (Scan.scores x0 x1) 63)⌝ ∗ owns (c : Thread nD τ) arg5 fullShare d)) -∗ K ⟨⟩))
          ⊢ wp frame (wpE (defs₀ (F := F)) Variants.none c none) E (cc0__pc_argmax_kernel i arg1 harg1 arg2 harg2 arg3 harg3 arg4 harg4 arg5 harg5) K := by
    intro E K
    simp only [cc0__pc_argmax_kernel_eq_skeleton]; unfold cc0__pc_argmax_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    have hMIS : kernelRun.sl.r_31 c arg1 harg1 arg2 harg2 x0 x1 = Scan.best (Scan.scores x0 x1) 61
        ∧ kernelRun.sl.r_32 c arg1 harg1 arg2 harg2 x0 x1 = Scan.bestAt (Scan.scores x0 x1) 61
        ∧ kernelRun.sl.r_33 c arg1 harg1 arg2 harg2 x0 x1 = Scan.scores x0 x1 62
        ∧ kernelRun.sl.r c arg1 harg1 x0 = x0 := by
      delta kernelRun.sl.r_33 kernelRun.sl.r_32 kernelRun.sl.r_31 kernelRun.sl.r_30 kernelRun.sl.r_29 kernelRun.sl.r_28 kernelRun.sl.r_27 kernelRun.sl.r_26 kernelRun.sl.r_25 kernelRun.sl.r_24 kernelRun.sl.r_23 kernelRun.sl.r_22 kernelRun.sl.r_21 kernelRun.sl.r_20 kernelRun.sl.r_19 kernelRun.sl.r_18 kernelRun.sl.r_17 kernelRun.sl.r_16 kernelRun.sl.r_15 kernelRun.sl.r_14 kernelRun.sl.r_13 kernelRun.sl.r_12 kernelRun.sl.r_11 kernelRun.sl.r_10 kernelRun.sl.r_9 kernelRun.sl.r_8 kernelRun.sl.r_7 kernelRun.sl.r_6 kernelRun.sl.r_5 kernelRun.sl.r_4 kernelRun.sl.r_3 kernelRun.sl.r_2 kernelRun.sl.r_1 kernelRun.sl.r
      simp only [Scan.readAt_rows, Scan.readAt_states]
      exact ⟨rfl, rfl, rfl, trivial⟩
    obtain ⟨hM, hI, hS, h0⟩ := hMIS
    isplitl [H2]
    · iexists _; isplitr; swap; · iexact H2
      ipureintro
      refine (Scan.read_numbers _ _ _).trans ?_
      rw [Scan.readAt_plane harg4 y0 (Scan.off1_eq i), Scan.readAt_plane harg5 y1 (Scan.off1_eq i)]
    isplitl [HS0]
    · iexists _; isplitr; swap
      · iexists _; isplitr; swap; · iexact HS0
        ipureintro; rfl
      ipureintro
      refine (Scan.plane_writes _ (Scan.off2_eq i) _ _).trans ?_
      rw [hM, hS, h0, Scan.readAt_rows]
      rfl
    iexists _; isplitr; swap
    · iexists _; isplitr; swap; · iexact HS1
      ipureintro; rfl
    ipureintro
    refine (Scan.plane_writes _ (Scan.off2_eq i) _ _).trans ?_
    rw [hM, hI, hS, h0, Scan.readAt_rows]
    rfl

end Cert.KernelIdeal.Gen

end
-- ==== Proof.Carry.lean ====
/-
  What is carried from a grid point to the next: the planes a point wrote, held until the next point reads them; and the launch of the
  whole kernel over that.
-/
module

public import proofs.«01_k».proof.Proof.Run
public import Idealize.ShloMosaic.Lib.Claim
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two-plane scratch buffers as memrefs. -/
abbrev scM0_0 : Memref sig .tc .vmem S2x512x128 .f32 := Memref.whole cc0_scratch0
abbrev scM0_1 : Memref sig .tc .vmem S2x512x128 .f32 := Memref.whole cc0_scratch1

/-- The scoped rest of the region with the two scratch buffers as memrefs held at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The greatest scores of the block of states of point `t`, and the numbers of the tiles that hold them, as planes. -/
def top (c : Dev nD) (t : Fin cfg0.N) : FVec F S1x512x128 .f32 :=
  Scan.lift (Scan.best (Scan.scores (iblk m c 0 t) (iblk m c 1 t)) 63)
def topAt (c : Dev nD) (t : Fin cfg0.N) : FVec F S1x512x128 .f32 :=
  Scan.lift (Scan.bestAt (Scan.scores (iblk m c 0 t) (iblk m c 1 t)) 63)

/-- What the scratch buffers hold before point `n`: the planes that the point before it wrote, whatever the other planes hold. -/
def Held (c : Dev nD) (n : ℕ) (S0 S1 : Vec F S2x512x128 .f32) : Prop :=
  ∀ t : Fin cfg0.N, t.val + 1 = n → Scan.plane S0 t.val = top m c t ∧ Scan.plane S1 t.val = topAt m c t

/-- The invariant before point `n`: the scratch buffers at contents that are `Held`, and the generator register. -/
def Carried (c : Dev nD) (n : ℕ) : sProp 𝕄 :=
  iprop((∃ S0 S1, ⌜Held m c n S0 S1⌝ ∗ owns (c : Thread nD τ) scM0_0 fullShare S0 ∗ owns (c : Thread nD τ) scM0_1 fullShare S1)
    ∗ (∃ r, prngReg c r))

/-- The proof data: the arrays as launched, the inputs' buffers at their blocks, the output's held to a predicate below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := Carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The windows whose contents are held to a predicate: the output. -/
def fgt0 : Fin 3 → Bool := fun w => w.val == 2

/-- What the body leaves in the output block at a point that has one before it: the numbers read off the planes of the point before. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun X => ∀ t' : Fin cfg0.N, t'.val + 1 = t.val → X = k0_pay5 (top m c t') (topAt m c t')

/-- The coordinate of grid point `t` is `t`. -/
theorem coord_val (t : Fin cfg0.N) : (grid0.coords t 0).val = t.val := by
  have h : ∀ t : Fin cfg0.N, (grid0.coords t 0).val = t.val := by decide +kernel
  exact h t

/-- A plane's number counts modulo two. -/
theorem plane_add_two (y : Vec F S2x512x128 .f32) (n : ℕ) : Scan.plane y (n + 1 + 1) = Scan.plane y n := by
  unfold Scan.plane
  funext a
  refine congrArg y (funext fun d => Fin.ext ?_)
  match d with
  | ⟨0, _⟩ => exact (show (n + 1 + 1) % 2 = n % 2 by omega)
  | ⟨1, _⟩ => rfl
  | ⟨2, _⟩ => rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜((dats m 0 c).toRRel fgt0 (Rl m c)).Finds 2 t Y⌝ ∗ owns (c : Thread nD τ) (st0_2 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜Rl m c 2 t X⌝ ∗ owns (c : Thread nD τ) (st0_2 t) fullShare X))

/-- The body at any point: it finds the planes of the point before, reads the numbers off them, and leaves its own planes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Carried m c (t.val + 1) from rfl,
    show (dats m 0 c).owesAt () t.succ = (dats m 0 c).owesAt () t.castSucc from rfl,
    after0_0, after0_1]
  rw [show (dats m 0 c).Φ t.castSucc = Carried m c t.val from rfl]
  unfold Carried
  iintro ⟨⟨⟨%S0, %S1, %hS, HS0, HS1⟩, Hg⟩, Ho, ⟨%d0, H0⟩, ⟨%d1, H1⟩, ⟨%d2, -, H2⟩⟩
  iapply ((kernelRun c (grid0.coords t) _ _ _ _ _ _ _ _ _ _ (iblk m c 0 t) (iblk m c 1 t) S0 S1) Set.univ _)
  isplitl [H0]; · iexact H0
  isplitl [H1]; · iexact H1
  isplitl [H2]; · iexists _; iexact H2
  isplitl [HS0]; · iexact HS0
  isplitl [HS1]; · iexact HS1
  iintro ⟨H0, H1, H2, ⟨%T0, %hT0, HS0⟩, ⟨%T1, %hT1, HS1⟩⟩
  isplitl [HS0 HS1 Hg]
  · isplitl [HS0 HS1]
    · iexists T0, T1
      isplitr
      · ipureintro
        intro t' ht'
        obtain rfl : t' = t := Fin.ext (by omega)
        rw [coord_val] at hT0 hT1
        exact ⟨hT0, hT1⟩
      isplitl [HS0]
      · iexact HS0
      iexact HS1
    iexact Hg
  isplitl [Ho]; · iexact Ho
  isplitl [H0]; · iexact H0
  isplitl [H1]; · iexact H1
  iexists _
  isplitr; swap; · iexact H2
  ipureintro
  intro t' ht'
  rw [coord_val, ← ht', plane_add_two, plane_add_two, (hS t' ht').1, (hS t' ht').2]

/-- The body table's row at point `t`'s slots is the body at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationRel (dats (F := F) m 0 c) (defs₀ (F := F)) Variants.none () Set.univ fgt0 (Rl m c) := fun t => by
  rw [bigSep_W0, bigSep_W0, defs₀_row]
  exact triple_restated (sound_body m c t) rfl .rfl fun _ => .rfl

/-- The proof data of the launch: exact but for the output, which is held to `Rl`. -/
abbrev rdat (c : Dev nD) := (dats m 0 c).toRRel fgt0 (Rl m c)

set_option backward.isDefEq.respectTransparency.types false in
/-- The launch: every final state has the arrays at what the proof data say and every semaphore counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => by
      rw [show (rdat m c).Φ 0 = Carried m c 0 from rfl, show (Pipeline.ΦA (cfgs 0).spec c : sProp 𝕄) = Pipeline.ΦA spec0 c from rfl, PhiA0_eq]
      unfold Carried
      iintro ⟨⟨⟨%S0, HS0⟩, ⟨%S1, HS1⟩⟩, Hg⟩
      isplitl [HS0 HS1]
      · iexists S0, S1
        isplitr
        · ipureintro
          intro t ht
          exact absurd ht (Nat.succ_ne_zero _)
        isplitl [HS0]
        · iexact HS0
        iexact HS1
      iexact Hg)
    (hout := fun c => by
      rw [show (rdat m c).Φ (Fin.last (cfgs 0).N) = Carried m c (cfgs 0).N from rfl, show (Pipeline.ΦA (cfgs 0).spec c : sProp 𝕄) = Pipeline.ΦA spec0 c from rfl, PhiA0_eq]
      unfold Carried
      iintro ⟨⟨%S0, %S1, -, HS0, HS1⟩, Hg⟩
      isplitl [HS0 HS1]
      · isplitl [HS0]
        · iexists S0; iexact HS0
        iexists S1; iexact HS1
      iexact Hg)
    (hQ' := fun _ h => h)

end Cert.KernelIdeal.Gen

end
-- ==== Proof.Result.lean ====
/-
  What the launch leaves in the result array, as a function of the two argument arrays.
-/
module

public import proofs.«01_k».proof.Proof.Carry

@[expose] public section

set_option maxRecDepth 16384

noncomputable section

namespace Cert.KernelIdeal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

variable (m : (ℓ : Loc nD τ sig) → Buf (Elt F) ℓ) (ρ : Dev nD → PrngReg)

/-- Block `b` of the states: rows `512 b` to `512 b + 511` (counted modulo 8192). -/
def states (x : Vec F S8192x32 .f32) (b : ℕ) : Vec F S512x32 .f32 := fun a =>
  x (ix2 ⟨(512 * b + (a 0).val) % 8192, Nat.mod_lt _ (by decide)⟩ (a 1))

/-- The numbers the kernel gives a block of states. -/
def numbers (v : Vec F S512x32 .f32) (x : Vec F S8192x32 .f32) : Vec F S512 .i32 :=
  k0_pay5 (Scan.lift (Scan.best (Scan.scores v x) 63)) (Scan.lift (Scan.bestAt (Scan.scores v x) 63))

/-- The result array: state `r`'s number is the one its block gives it. -/
def result (x0 x1 : Vec F S8192x32 .f32) : Vec F S8192 .i32 := fun a =>
  numbers (states x0 ((a 0).val / 512)) x1 (ix1 ⟨(a 0).val % 512, Nat.mod_lt _ (by decide)⟩)

/-- Where each window's block lies at each point, and when the output's is written back. -/
theorem index0 (t : Fin cfg0.N) : win0_0.index t 0 = min t.val 15 ∧ win0_0.index t 1 = 0 := by
  have h : ∀ t : Fin cfg0.N, win0_0.index t 0 = min t.val 15 ∧ win0_0.index t 1 = 0 := by decide +kernel
  exact h t
theorem index1 (t : Fin cfg0.N) : win0_1.index t 0 = 0 ∧ win0_1.index t 1 = 0 := by
  have h : ∀ t : Fin cfg0.N, win0_1.index t 0 = 0 ∧ win0_1.index t 1 = 0 := by decide +kernel
  exact h t
theorem index2 (t : Fin cfg0.N) : win0_2.index t 0 = t.val - 1 := by
  have h : ∀ t : Fin cfg0.N, win0_2.index t 0 = t.val - 1 := by decide +kernel
  exact h t
theorem flush2 (t : Fin cfg0.N) (h : (cfg0.win 2).flush t = true) : t.val ≠ 0 := by
  have h' : ∀ t : Fin cfg0.N, (cfg0.win 2).flush t = true → t.val ≠ 0 := by decide +kernel
  exact h' t h

/-- The states a point before the last is given. -/
theorem iblk0_eq (c : Dev nD) (t : Fin cfg0.N) (ht : t.val < 16) :
    iblk m c 0 t = states (m ((c : Thread nD τ).loc main_arg0)) t.val := by
  have hi := index0 t
  funext j
  unfold iblk states
  rw [View.read_apply]
  show V m c main_arg0 _ = m (c.tc.loc main_arg0) _
  have h0 : (j 0).val < 512 := (j 0).isLt
  refine congrArg (m (c.tc.loc main_arg0)) (funext fun d => Fin.ext ?_)
  match d with
  | ⟨0, _⟩ => show win0_0.index t 0 * 512 + 1 * (j 0).val = (512 * t.val + (j 0).val) % 8192; rw [hi.1]; omega
  | ⟨1, _⟩ => show win0_0.index t 1 * 32 + 1 * (j 1).val = (j 1).val; rw [hi.2]; omega

/-- Every point is given the whole second array. -/
theorem iblk1_eq (c : Dev nD) (t : Fin cfg0.N) : iblk m c 1 t = m ((c : Thread nD τ).loc main_arg1) := by
  have hi := index1 t
  funext j
  unfold iblk
  rw [View.read_apply]
  show V m c main_arg1 _ = m (c.tc.loc main_arg1) _
  refine congrArg (m (c.tc.loc main_arg1)) (funext fun d => Fin.ext ?_)
  match d with
  | ⟨0, _⟩ => show win0_1.index t 0 * 8192 + 1 * (j 0).val = (j 0).val; rw [hi.1]; omega
  | ⟨1, _⟩ => show win0_1.index t 1 * 32 + 1 * (j 1).val = (j 1).val; rw [hi.2]; omega

/-- The launch leaves in the result array `result` of the two arguments. -/
theorem result_eq (c : Dev nD) {r : PUnit × MemSt nD τ sig (Elt F)} (h : Pipeline.RDat.FramePost (cfgs 0) (rdat m) (V m) r) :
    r.2.mem ((c.tc : Thread nD τ).loc main_v0)
      = result (m ((c : Thread nD τ).loc main_arg0)) (m ((c : Thread nD τ).loc main_arg1)) := by
  obtain ⟨after, hL, hA⟩ := h.exists_exact c
  refine (hA 2).trans ?_
  refine Pipeline.Dat.arrAt_eq_of_covers (cfg := cfg0) _ 2 _ (by decide +kernel) fun t hf y => ?_
  have ht := flush2 t hf
  have hN : t.val < 17 := t.isLt
  have hX : after 2 t = numbers (states (m ((c : Thread nD τ).loc main_arg0)) (t.val - 1)) (m ((c : Thread nD τ).loc main_arg1)) := by
    have := (dats m 0 c).toRRel_leaves (fgt := fgt0) (Rl := Rl m c) (w := (2 : Fin 3)) rfl (hL 2 t hf)
    refine (this ⟨t.val - 1, lt_of_le_of_lt (Nat.sub_le _ _) t.isLt⟩ (show t.val - 1 + 1 = t.val by omega)).trans ?_
    unfold top topAt
    rw [iblk0_eq m c _ (show t.val - 1 < 16 by omega), iblk1_eq]
    rfl
  have hi := index2 t
  have hy : (y 0).val < 512 := (y 0).isLt
  have he : ∀ i : S8192.Idx, (i 0).val = 512 * (t.val - 1) + (y 0).val →
      result (m ((c : Thread nD τ).loc main_arg0)) (m ((c : Thread nD τ).loc main_arg1)) i
        = numbers (states (m ((c : Thread nD τ).loc main_arg0)) (t.val - 1)) (m ((c : Thread nD τ).loc main_arg1)) (ix1 ⟨(y 0).val, hy⟩) := by
    intro i hi
    unfold result
    rw [show (i 0).val / 512 = t.val - 1 by omega]
    exact congrArg _ (congrArg ix1 (Fin.ext (show (i 0).val % 512 = (y 0).val by omega)))
  refine Eq.trans ?_ (he _ (show win0_2.index t 0 * 512 + 1 * (y 0).val = _ by rw [hi]; omega)).symm
  show after 2 t _ = _
  rw [hX]
  refine congrArg _ (funext fun d => Fin.ext ?_)
  match d with
  | ⟨0, _⟩ => rfl

/-- The two arguments end as they began. -/
theorem args_eq (c : Dev nD) {r : PUnit × MemSt nD τ sig (Elt F)} (h : Pipeline.RDat.FramePost (cfgs 0) (rdat m) (V m) r) :
    r.2.mem ((c.tc : Thread nD τ).loc main_arg0) = m ((c : Thread nD τ).loc main_arg0)
      ∧ r.2.mem ((c.tc : Thread nD τ).loc main_arg1) = m ((c : Thread nD τ).loc main_arg1) :=
  ⟨(Pipeline.RDat.FramePost.arr_in h c 0 rfl).trans ((A_eq m c 0).trans (V_main_arg0 m c)),
    (Pipeline.RDat.FramePost.arr_in h c 1 rfl).trans ((A_eq m c 1).trans (V_main_arg1 m c))⟩

/-- Every run ends with the result array at `result`, the arguments as they began and every semaphore counter at zero. -/
theorem run_value : θ_run defs (onTc (τ := τ) (main (F := F))) ⟨m, fun _ => 0, ρ⟩ (fun r => (∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨result_eq m c h.1, args_eq m c h.1⟩, h.2⟩) (run_main m ρ)

end Cert.KernelIdeal.Gen

end
-- ==== Proof.SameText.lean ====
/-
  The kernel and the idealised kernel are one text, kept under two names. What the second does at every kind of float, it
  does at machine floats too, and there it is the first. So the run proved once for the idealised kernel serves both.
-/
module

public import proofs.«01_k».proof.Proof.Result
public import proofs.«01_k».proof.Proof.Gen.Kernel

@[expose] public section

noncomputable section

namespace Cert.SameText

open Idealize.ShloMosaic Idealize.SL.Sem

variable {F : FTy → Type} [FloatOps F]

/-- The bodies of the two kernels are the same program. -/
theorem body_eq :
    @Cert.Kernel.cc0__pc_argmax_kernel F _ _ = @Cert.KernelIdeal.cc0__pc_argmax_kernel F _ _ := rfl

/-- So the tables that hand each label its body are the same: there is one label. -/
theorem table_eq : Cert.Kernel.defs₀ (F := F) = Cert.KernelIdeal.defs₀ (F := F) := by
  refine congrArg Defs.onTc (funext fun l => funext fun a => ?_)
  match l, a with
  | 0, (_, _) => rfl

/-- And so are the tables with the pipeline's own labels added. -/
theorem defs_eq : Cert.Kernel.defs (F := F) = Cert.KernelIdeal.defs (F := F) :=
  congrArg (Pipeline.defs Cert.KernelIdeal.pcfgs) table_eq

/-- The kernel ends with both arguments as they were and every semaphore at zero, at every kind of float. -/
theorem run_frame (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem (c.tc.loc Cert.Kernel.main_arg0) = m (c.tc.loc Cert.Kernel.main_arg0)
        ∧ r.2.mem (c.tc.loc Cert.Kernel.main_arg1) = m (c.tc.loc Cert.Kernel.main_arg1))
        ∧ r.2.sem = fun _ => 0) := by
  rw [defs_eq]
  exact θ_run_mono (Cert.KernelIdeal.Gen.run_value m ρ) fun r hr => ⟨fun c => (hr.1 c).2, hr.2⟩

end Cert.SameText

end
-- ==== Proof.First.lean ====
/-
  The first place where a sequence of extended reals takes its greatest value.
-/
module

public import Mathlib.Data.EReal.Basic
public import Mathlib.Data.Finset.Lattice.Fold

@[expose] public section

namespace Cert.First

/-- `k` is the first of the places below `n` where `g` takes its greatest value. -/
def IsFirst (g : ℕ → EReal) (n k : ℕ) : Prop := k < n ∧ (∀ j < n, g j ≤ g k) ∧ ∀ j < n, g j = g k → k ≤ j

/-- There is only one such place. -/
theorem IsFirst.unique {g : ℕ → EReal} {n k k' : ℕ} (h : IsFirst g n k) (h' : IsFirst g n k') : k = k' := by
  have e : g k = g k' := le_antisymm (h'.2.1 k h.1) (h.2.1 k' h'.1)
  exact le_antisymm (h.2.2 k' h'.1 e.symm) (h'.2.2 k h.1 e)

/-- Cut the places below `w * p` into `w` tiles of `p` lanes. If `b l` is, for each lane `l`, the first tile where the lane takes its
    greatest value, and `m` is the least of the places `p * b l + l` of the lanes whose greatest value is the greatest of all, then `m`
    is the first place of the greatest value. -/
theorem isFirst_of_lanes {g : ℕ → EReal} {w p : ℕ} (b : Fin p → ℕ)
    (hb : ∀ l, IsFirst (fun i => g (p * i + l.val)) w (b l)) {m : ℕ} (l₀ : Fin p) (hm : m = p * b l₀ + l₀.val)
    (hmax : ∀ l : Fin p, g (p * b l + l.val) ≤ g m)
    (hmin : ∀ l : Fin p, g (p * b l + l.val) = g m → m ≤ p * b l + l.val) : IsFirst g (w * p) m := by
  have hp : 0 < p := lt_of_le_of_lt (Nat.zero_le _) l₀.isLt
  have split : ∀ j, p * (j / p) + j % p = j := fun j => Nat.div_add_mod j p
  have tile : ∀ j < w * p, j / p < w := fun j hj => Nat.div_lt_of_lt_mul (by rwa [Nat.mul_comm] at hj)
  have lane : ∀ j < w * p, g j ≤ g (p * b ⟨j % p, Nat.mod_lt _ hp⟩ + j % p) := fun j hj => by
    have := (hb ⟨j % p, Nat.mod_lt _ hp⟩).2.1 (j / p) (tile j hj)
    simpa only [split] using this
  refine ⟨?_, fun j hj => (lane j hj).trans (hmax ⟨j % p, _⟩), fun j hj e => ?_⟩
  · have h1 := (hb l₀).1
    have h2 := l₀.isLt
    calc m = p * b l₀ + l₀.val := hm
      _ < p * b l₀ + p := by omega
      _ = p * (b l₀ + 1) := by ring
      _ ≤ p * w := Nat.mul_le_mul_left _ h1
      _ = w * p := Nat.mul_comm _ _
  · have e' : g (p * b ⟨j % p, Nat.mod_lt _ hp⟩ + j % p) = g m :=
      le_antisymm (hmax ⟨j % p, Nat.mod_lt _ hp⟩) (e ▸ lane j hj)
    have h1 := (hb ⟨j % p, Nat.mod_lt _ hp⟩).2.2 (j / p) (tile j hj) (by simp only [split]; rw [e, e'])
    calc m ≤ p * b ⟨j % p, Nat.mod_lt _ hp⟩ + j % p := hmin ⟨j % p, Nat.mod_lt _ hp⟩ e'
      _ ≤ p * (j / p) + j % p := Nat.add_le_add_right (Nat.mul_le_mul_left _ h1) _
      _ = j := split j

/-- Extending a sequence by one value: the first place of the greatest stays unless the new value is strictly greater. -/
theorem IsFirst.succ {g : ℕ → EReal} {n k : ℕ} (h : IsFirst g n k) : IsFirst g (n + 1) (if g k < g n then n else k) := by
  split
  · next hlt =>
    refine ⟨Nat.lt_succ_self n, fun j hj => ?_, fun j hj e => ?_⟩
    · rcases Nat.lt_succ_iff_lt_or_eq.mp hj with hj | rfl
      · exact (h.2.1 j hj).trans hlt.le
      · exact le_rfl
    · rcases Nat.lt_succ_iff_lt_or_eq.mp hj with hj | rfl
      · exact absurd (h.2.1 j hj) (by rw [e]; exact not_le.mpr hlt)
      · exact le_rfl
  · next hlt =>
    refine ⟨Nat.lt_succ_of_lt h.1, fun j hj => ?_, fun j hj e => ?_⟩
    · rcases Nat.lt_succ_iff_lt_or_eq.mp hj with hj | rfl
      · exact h.2.1 j hj
      · exact not_lt.mp hlt
    · rcases Nat.lt_succ_iff_lt_or_eq.mp hj with hj | rfl
      · exact h.2.2 j hj e
      · exact h.1.le

end Cert.First
-- ==== Proof.Lanes.lean ====
/-
  The running best over the extended reals: at each state and lane it is the greatest score of the tiles met so far, and the number kept
  beside it is that of the first tile that has it.
-/
module

public import proofs.«01_k».proof.Proof.Scan
public import proofs.«01_k».proof.Proof.First
public import Idealize.ShloMosaic.PureOps.Ideal.Laws

@[expose] public section

noncomputable section

namespace Cert.Scan

open Idealize.ShloMosaic Idealize.ShloMosaic.ValueIdx Idealize.SL.Sem Cert.KernelIdeal Cert.First

/-- A positive pattern of exponent `127 + k` whose significand is `n` times `2 ^ (23 - k)` denotes `n`. -/
theorem ofBits_nat (b : BitVec 32) (n k : ℕ) (h0 : b.extractLsb' 31 1 = 0#1) (h1 : (b.extractLsb' 23 8).toNat = 127 + k)
    (h2 : 2 ^ 23 + (b.extractLsb' 0 23).toNat = n * 2 ^ (23 - k)) (hk : k ≤ 23) :
    Ideal.ofBits .f32 b = (((n : ℕ) : ℝ) : EReal) := by
  show Ideal.ieee 8 23 b = _
  unfold Ideal.ieee
  simp only [h1]
  rw [show (8 + 23 : ℕ) = 31 from rfl, h0, if_neg (by omega), if_neg (by omega), h2]
  congr 1
  have e : (((127 + k : ℕ) : ℤ) - (2 ^ (8 - 1) - 1) - (23 : ℕ) : ℤ) = -((23 - k : ℕ) : ℤ) := by
    push_cast [hk]; norm_num
  rw [e, zpow_neg, zpow_natCast]
  have : (2 : ℝ) ^ (23 - k) ≠ 0 := by positivity
  simp

/-- The pattern `word j` denotes `j`. -/
theorem ofBits_word (j : ℕ) (hj : j < 64) : Ideal.ofBits .f32 (word j) = ((j : ℝ) : EReal) := by
  by_cases h0 : j = 0
  · subst h0
    rw [show word 0 = 0x00000000#32 from rfl, Ideal.ofBits_zero_f32]
    simp
  · have h : ∀ j : Fin 64, j.val ≠ 0 → (word j.val).extractLsb' 31 1 = 0#1 ∧ ((word j.val).extractLsb' 23 8).toNat = 127 + Nat.log2 j.val
        ∧ 2 ^ 23 + ((word j.val).extractLsb' 0 23).toNat = j.val * 2 ^ (23 - Nat.log2 j.val) ∧ Nat.log2 j.val ≤ 23 := by
      decide +kernel
    obtain ⟨a, b, c, d⟩ := h ⟨j, hj⟩ h0
    exact ofBits_nat _ _ _ a b c d

/-- After tiles `0` to `n`: the number kept is that of the first tile with the greatest score, and the score kept is that tile's. -/
theorem lane (s : ℕ → FVec Ideal S512x128 .f32) (a : S512x128.Idx) (n : ℕ) (h : n < 64) :
    ∃ j, IsFirst (fun i => (s i a : EReal)) (n + 1) j ∧ best s n a = s j a ∧ bestAt s n a = (((j : ℕ) : ℝ) : EReal) := by
  induction n with
  | zero => exact ⟨0, ⟨Nat.one_pos, fun j hj => by rw [Nat.lt_one_iff.mp hj], fun _ _ _ => Nat.zero_le _⟩, rfl, by rw [bestAt_zero, Ideal.ofBits_def, ofBits_word 0 h]⟩
  | succ n ih =>
    obtain ⟨j, hj, hb, ha⟩ := ih (Nat.lt_of_succ_lt h)
    refine ⟨_, hj.succ, ?_, ?_⟩
    · show max (best s n a : EReal) (s (n + 1) a) = s (if (s j a : EReal) < s (n + 1) a then n + 1 else j) a
      rw [hb]
      split
      · next hlt => exact max_eq_right hlt.le
      · next hlt => exact max_eq_left (not_lt.mp hlt)
    · rw [bestAt_succ, hb, ha, Ideal.ofBits_def, ofBits_word (n + 1) h, Ideal.cmpf_def]
      unfold Ideal.cmp
      by_cases hlt : (s j a : EReal) < s (n + 1) a
      · rw [if_pos hlt]
        simp only [hlt, decide_true]
        rfl
      · rw [if_neg hlt]
        simp only [hlt, decide_false]
        rfl

end Cert.Scan

end
-- ==== Proof.Answer.lean ====
/-
  The numbers read off a pair of planes: of each state the least `128 · tile + lane` over the lanes whose score is the greatest.
-/
module

public import proofs.«01_k».proof.Proof.Lanes
public import Idealize.ShloMosaic.Lib.ValueLayout
public import Idealize.ShloMosaic.Lib.ValueLayoutCasts

@[expose] public section

noncomputable section

namespace Cert.Scan

open Idealize.ShloMosaic Idealize.ShloMosaic.ValueIdx Idealize.SL.Sem Cert.KernelIdeal Cert.KernelIdeal.Gen Cert.First

section AnyValues

variable {F : FTy → Type} [FloatOps F]

/-- The greatest of a state's lanes. -/
def greatest (v : Vec F S1x512x128 .f32) : FVec F S512 .f32 :=
  multiReduction .maximumf [1] S512 (shapeCast S512x128 v shapeCasts_S1x512x128_S512x128) 0xFF800000#32 reduces_S512x128_S512 (.inl rfl) rfl

/-- The candidates: a lane's `128 · tile + lane` if its score is the greatest, else 8192. -/
def candidates (v w : Vec F S1x512x128 .f32) : FVec F S512x128 .f32 :=
  select
    (cmpf .oeq (shapeCast S512x128 v shapeCasts_S1x512x128_S512x128)
      (broadcastTo S512x128 (shapeCast S512x1 (greatest v) shapeCasts_S512_S512x1) broadcasts_S512x1_S512x128))
    (addf (mulf (shapeCast S512x128 w shapeCasts_S1x512x128_S512x128) (broadcast S512x128 (Scalar.ofBits .f32 0x43000000#32)))
      (sitofp .f32 (iota .tc S512x128 32 [1] iota_S512x128_d1_w32)))
    (broadcast S512x128 (Scalar.ofBits .f32 0x46000000#32))

/-- What a grid point stores in the output block: the least candidate of each state. -/
theorem pay5_eq (v w : Vec F S1x512x128 .f32) : k0_pay5 v w
    = fptosi 32 (multiReduction .minimumf [1] S512 (candidates v w) 0x7F800000#32 reduces_S512x128_S512 (.inl rfl) rfl) := rfl

/-- A state's candidate at a lane. -/
theorem candidates_apply (v w : Vec F S1x512x128 .f32) (r : Fin 512) (l : Fin 128) : candidates v w (ix2 r l)
    = Scalar.select (FloatOps.cmpf .oeq (v (ix3 (0 : Fin 1) r l)) (greatest v (ix1 r)))
        (FloatOps.addf (FloatOps.mulf (w (ix3 (0 : Fin 1) r l)) (FloatOps.ofBits .f32 0x43000000#32)) (FloatOps.sitofp .f32 (BitVec.ofNat 32 l.val)))
        (FloatOps.ofBits .f32 0x46000000#32) := by
  have hg : broadcastTo S512x128 (shapeCast S512x1 (greatest v) shapeCasts_S512_S512x1) broadcasts_S512x1_S512x128 (ix2 r l) = greatest v (ix1 r) :=
    (broadcastTo_apply _ _ (ix2 r l) (ix2 r (0 : Fin 1)) (fun a => by
      match a with
      | ⟨0, _⟩ => rfl
      | ⟨1, _⟩ => rfl)).trans (shapeCast_a_a1_apply _ _ r 0)
  have hv := shapeCast_1ab_ab_apply v shapeCasts_S1x512x128_S512x128 r l
  have hw := shapeCast_1ab_ab_apply w shapeCasts_S1x512x128_S512x128 r l
  have hi : iota .tc S512x128 32 [1] iota_S512x128_d1_w32 (ix2 r l) = BitVec.ofNat 32 l.val := by
    unfold iota
    exact congrArg (BitVec.ofNat 32) (Nat.zero_add _)
  rw [← hg, ← hv, ← hw, ← hi]
  rfl

end AnyValues

/-- The index of a state's lane among the indices a reduction over lanes meets. -/
theorem lift_eq (r : Fin 512) (l : Fin 128) : (reduces_S512x128_S512 : S512x128.Reduces [1] S512).lift (ix1 r) l = ix2 r l := by
  funext a
  match a with
  | ⟨0, _⟩ => rfl
  | ⟨1, _⟩ => rfl

/-- Over the extended reals the greatest lane is a supremum, -/
theorem greatest_eq (v : Vec Ideal S1x512x128 .f32) (r : Fin 512) :
    greatest v (ix1 r) = Finset.univ.sup fun l : Fin 128 => (v (ix3 (0 : Fin 1) r l) : EReal) := by
  unfold greatest
  refine (Ideal.multiReduction_maximumf_single _ _ _ _ _ _).trans ?_
  have hbot : (FloatOps.ofBits (F := Ideal) .f32 0xFF800000#32 : EReal) = ⊥ := by
    rw [Ideal.ofBits_def]; simp [Ideal.ofBits, Ideal.ieee]
  rw [hbot]
  show (Finset.univ : Finset (Fin 128)).fold max ⊥ _ = _
  refine (Finset.fold_congr fun l _ => ?_).trans rfl
  show shapeCast S512x128 v shapeCasts_S1x512x128_S512x128 ((reduces_S512x128_S512 : S512x128.Reduces [1] S512).lift (ix1 r) l) = _
  rw [lift_eq]
  exact shapeCast_1ab_ab_apply v shapeCasts_S1x512x128_S512x128 r l

/-- and the stored number is the integer part of an infimum. -/
theorem pay5_apply (v w : Vec Ideal S1x512x128 .f32) (r : Fin 512) : k0_pay5 v w (ix1 r)
    = Ideal.fptosi 32 (Finset.univ.inf fun l : Fin 128 => (candidates v w (ix2 r l) : EReal)) := by
  rw [pay5_eq]
  refine congrArg (Ideal.fptosi 32) ?_
  refine (multiReduction_minimumf_eq_fold _ _ _ _ _ _).trans ?_
  refine (Shape.Reduces.fold_filter_drop_single _ _ _ _ _).trans ?_
  have htop : (FloatOps.ofBits (F := Ideal) .f32 0x7F800000#32 : EReal) = ⊤ := by
    rw [Ideal.ofBits_def]; simp [Ideal.ofBits, Ideal.ieee]
  rw [htop]
  show (Finset.univ : Finset (Fin 128)).fold min ⊤ _ = _
  refine (Finset.fold_congr fun l _ => ?_).trans rfl
  show candidates v w ((reduces_S512x128_S512 : S512x128.Reduces [1] S512).lift (ix1 r) l) = _
  rw [lift_eq]

/-- A natural number below `2 ^ 31` converted to a word is that number's word. -/
theorem fptosi_nat (k : ℕ) (hk : k < 2 ^ 31) : Ideal.fptosi 32 (((k : ℕ) : ℝ) : EReal) = BitVec.ofNat 32 k := by
  unfold Ideal.fptosi
  rw [Ideal.toIntClamped_coe, if_pos (Nat.cast_nonneg k), Int.floor_natCast, min_eq_right (by omega), max_eq_right (by omega)]
  exact BitVec.ofInt_natCast 32 k

/-- A state's candidate at a lane whose tile number is `j`. -/
theorem candidates_eq (v w : Vec Ideal S1x512x128 .f32) (r : Fin 512) (l : Fin 128) (j : ℕ)
    (hw : w (ix3 (0 : Fin 1) r l) = (((j : ℕ) : ℝ) : EReal)) : (candidates v w (ix2 r l) : EReal)
      = (((if (v (ix3 (0 : Fin 1) r l) : EReal) = greatest v (ix1 r) then 128 * j + l.val else 8192 : ℕ) : ℝ) : EReal) := by
  have h128 : Ideal.ofBits .f32 0x43000000#32 = (((128 : ℕ) : ℝ) : EReal) :=
    ofBits_nat _ 128 7 (by decide) (by decide) (by decide) (by decide)
  have h8192 : Ideal.ofBits .f32 0x46000000#32 = (((8192 : ℕ) : ℝ) : EReal) :=
    ofBits_nat _ 8192 13 (by decide) (by decide) (by decide) (by decide)
  have hl : (FloatOps.sitofp (F := Ideal) .f32 (BitVec.ofNat 32 l.val) : EReal) = (((l.val : ℕ) : ℝ) : EReal) := by
    have h : ∀ l : Fin 128, (BitVec.ofNat 32 l.val).toInt = (l.val : ℤ) := by decide +kernel
    show ((((BitVec.ofNat 32 l.val).toInt : ℤ) : ℝ) : EReal) = _
    rw [h l, Int.cast_natCast]
  rw [candidates_apply, hw, Ideal.cmpf_def, Ideal.ofBits_def, Ideal.ofBits_def, h128, h8192, hl, Ideal.addf_def, Ideal.mulf_def]
  unfold Ideal.cmp
  by_cases h : (v (ix3 (0 : Fin 1) r l) : EReal) = greatest v (ix1 r)
  · rw [if_pos h]
    simp only [h, decide_true]
    show (((j : ℕ) : ℝ) : EReal) * (((128 : ℕ) : ℝ) : EReal) + (((l.val : ℕ) : ℝ) : EReal) = _
    rw [← EReal.coe_mul, ← EReal.coe_add]
    congr 1
    push_cast
    ring
  · rw [if_neg h]
    simp only [h, decide_false]
    rfl

/-- The number read off the planes of a state whose score against row `k` of the second array is `g k` is the first row of the greatest
    score. -/
theorem answer (s : ℕ → FVec Ideal S512x128 .f32) (g : ℕ → EReal) (r : Fin 512)
    (hg : ∀ (i : ℕ) (l : Fin 128), i < 64 → (s i (ix2 r l) : EReal) = g (128 * i + l.val)) :
    ∃ k, IsFirst g 8192 k ∧ k0_pay5 (lift (best s 63)) (lift (bestAt s 63)) (ix1 r) = BitVec.ofNat 32 k := by
  choose b hb hM hW using fun l : Fin 128 => lane s (ix2 r l) 63 (by decide)
  have hv : ∀ l : Fin 128, (lift (best s 63) (ix3 (0 : Fin 1) r l) : EReal) = g (128 * b l + l.val) := fun l =>
    ((shapeCast_ab_1ab_apply (best s 63) shapeCasts_S512x128_S1x512x128 0 r l).trans (hM l)).trans (hg _ _ (hb l).1)
  have hw : ∀ l : Fin 128, lift (bestAt s 63) (ix3 (0 : Fin 1) r l) = (((b l : ℕ) : ℝ) : EReal) := fun l =>
    (shapeCast_ab_1ab_apply (bestAt s 63) shapeCasts_S512x128_S1x512x128 0 r l).trans (hW l)
  have hb' : ∀ l : Fin 128, IsFirst (fun i => g (128 * i + l.val)) 64 (b l) := fun l =>
    ⟨(hb l).1, fun j hj => by simpa only [hg _ l hj, hg _ l (hb l).1] using (hb l).2.1 j hj,
      fun j hj e => (hb l).2.2 j hj (by simpa only [hg _ l hj, hg _ l (hb l).1] using e)⟩
  have hgr := greatest_eq (lift (best s 63)) r
  simp only [hv] at hgr
  have hc := fun l : Fin 128 => candidates_eq (lift (best s 63)) (lift (bestAt s 63)) r l (b l) (hw l)
  simp only [hv, hgr] at hc
  obtain ⟨l₁, -, h₁⟩ := Finset.exists_mem_eq_sup (Finset.univ : Finset (Fin 128)) Finset.univ_nonempty fun l => g (128 * b l + l.val)
  obtain ⟨l₀, -, h₀⟩ := Finset.exists_mem_eq_inf (Finset.univ : Finset (Fin 128)) Finset.univ_nonempty
    fun l => (candidates (lift (best s 63)) (lift (bestAt s 63)) (ix2 r l) : EReal)
  have hle : ∀ l : Fin 128, g (128 * b l + l.val) ≤ g (128 * b l₁ + l₁.val) := fun l => h₁ ▸ Finset.le_sup (f := fun l : Fin 128 => g (128 * b l + l.val)) (Finset.mem_univ l)
  have hmin : ∀ l : Fin 128, g (128 * b l + l.val) = g (128 * b l₁ + l₁.val) →
      (candidates (lift (best s 63)) (lift (bestAt s 63)) (ix2 r l₀) : EReal) ≤ (((128 * b l + l.val : ℕ) : ℝ) : EReal) := fun l e => by
    have := Finset.inf_le (f := fun l => (candidates (lift (best s 63)) (lift (bestAt s 63)) (ix2 r l) : EReal)) (Finset.mem_univ l)
    rwa [h₀, hc l, h₁, if_pos e] at this
  have h₀' : g (128 * b l₀ + l₀.val) = g (128 * b l₁ + l₁.val) := by
    by_contra hne
    have := hmin l₁ rfl
    rw [hc l₀, h₁, if_neg hne] at this
    have h' : 8192 ≤ 128 * b l₁ + l₁.val := by exact_mod_cast this
    have := (hb l₁).1
    have := l₁.isLt
    omega
  have hval : (candidates (lift (best s 63)) (lift (bestAt s 63)) (ix2 r l₀) : EReal) = (((128 * b l₀ + l₀.val : ℕ) : ℝ) : EReal) := by
    rw [hc l₀, h₁, if_pos h₀']
  refine ⟨128 * b l₀ + l₀.val, isFirst_of_lanes (w := 64) (p := 128) b hb' l₀ rfl (fun l => h₀' ▸ hle l) fun l e => ?_, ?_⟩
  · have := hmin l (e.trans h₀')
    rw [hval] at this
    exact_mod_cast this
  · rw [pay5_apply, h₀, hval]
    have := (hb l₀).1
    have := l₀.isLt
    exact fptosi_nat _ (by omega)

end Cert.Scan

end
-- ==== Proof.Scores.lean ====
/-
  The number the launch leaves for a state, as the first row of the greatest score.
-/
module

public import proofs.«01_k».proof.Proof.Result
public import proofs.«01_k».proof.Proof.Answer
public import Idealize.ShloMosaic.Lib.MatmulPlain

@[expose] public section

noncomputable section

namespace Cert.Scan

open Idealize.ShloMosaic Idealize.ShloMosaic.ValueIdx
open Cert.KernelIdeal Cert.KernelIdeal.Gen
open Cert.First
open scoped BigOperators

/-- The score of row `R` of `x` against row `c` of `y` (counted modulo 8192): the sum of the products of their entries. -/
def against (x y : Vec Ideal S8192x32 .f32) (R : Fin 8192) (c : ℕ) : EReal :=
  ∑ k : Fin 32, (x (ix2 R k) : EReal) * (y (ix2 (⟨c % 8192, Nat.mod_lt _ (by decide)⟩ : Fin 8192) k) : EReal)

/-- A block's scores are a product with the second operand transposed. -/
theorem dot_eq : dot_S512x32_S128x32_S512x128_1_1_0_0_n_n = DotDims.transposedRhs 512 32 128 := rfl

/-- The score of a block's state at a lane of a tile is its score against that tile's row. -/
theorem scores_apply (x y : Vec Ideal S8192x32 .f32) (R : Fin 8192) (j : ℕ) (r : Fin 512) (hr : r.val = R.val % 512) (l : Fin 128) :
    (scores (states x (R.val / 512)) y j (ix2 r l) : EReal) = against x y R (128 * j + l.val) := by
  have hR : (⟨(512 * (R.val / 512) + r.val) % 8192, Nat.mod_lt _ (by decide)⟩ : Fin 8192) = R :=
    Fin.ext (by
      have := R.isLt
      show (512 * (R.val / 512) + r.val) % 8192 = R.val
      omega)
  unfold scores score
  rw [dot_eq]
  refine (Ideal.matmul_transposedRhs_apply none _ _ _ r l).trans ?_
  have h0 : (constant (F := Ideal) S512x128 .f32 0x00000000#32 (ix2 r l) : EReal) = 0 := Ideal.ofBits_zero_f32
  rw [h0, zero_add]
  refine Finset.sum_congr rfl fun k _ => ?_
  exact congrArg (fun R : Fin 8192 => (x (ix2 R k) : EReal) * _) hR

/-- The launch leaves, for each state, the first row its score is greatest against. -/
theorem result_first (x y : Vec Ideal S8192x32 .f32) (R : Fin 8192) :
    ∃ k, IsFirst (against x y R) 8192 k ∧ result x y (ix1 R) = BitVec.ofNat 32 k :=
  answer (scores (states x (R.val / 512)) y) (against x y R) ⟨R.val % 512, Nat.mod_lt _ (by decide)⟩
    fun i l _ => scores_apply x y R i _ rfl l

end Cert.Scan

end
-- ==== Proof.Argmax.lean ====
/-
  What the reference computes: the scores of every state against every row, then for each state the place of the
  greatest, the first where several are greatest.
-/
module

public import proofs.«01_k».proof.Proof.Gen.ReferenceIdeal
public import proofs.«01_k».proof.Proof.First
public import Idealize.ShloMosaic.Lib.StackMember

@[expose] public section

noncomputable section

namespace Cert.Argmax

open Idealize.ShloMosaic Idealize.ShloMosaic.ValueIdx
open Cert.ReferenceIdeal Cert.ReferenceIdeal.Gen
open Cert.First
open scoped BigOperators

/-- A score with its place is at least as good as another: it is no smaller, and comes no later where the two are equal. -/
def Beats (p q : Ideal .f32 × BitVec 32) : Prop :=
  (q.1 : EReal) ≤ p.1 ∧ ((q.1 : EReal) = p.1 → p.2.toInt ≤ q.2.toInt)

/-- A pair is as good as itself. -/
theorem Beats.rfl (p : Ideal .f32 × BitVec 32) : Beats p p := ⟨le_refl (p.1 : EReal), fun _ => le_refl _⟩

/-- What beats a pair beats all that one beats. -/
theorem Beats.trans {p q r : Ideal .f32 × BitVec 32} (h : Beats p q) (h' : Beats q r) : Beats p r :=
  ⟨le_trans h'.1 h.1, fun e =>
    have e' : (r.1 : EReal) = q.1 := le_antisymm h'.1 (e ▸ h.1)
    le_trans (h.2 (e'.symm.trans e)) (h'.2 e')⟩

/-- The reference's step keeps one of the two pairs it compares, and that one beats both. -/
theorem step (a b : Ideal .f32 × BitVec 32) : (reducer_argmax_f32_i32 a b = a ∨ reducer_argmax_f32_i32 a b = b)
    ∧ Beats (reducer_argmax_f32_i32 a b) a ∧ Beats (reducer_argmax_f32_i32 a b) b := by
  obtain ⟨x, i⟩ := a
  obtain ⟨y, j⟩ := b
  change EReal at x y
  rcases lt_trichotomy x y with h | h | h
  · have e : reducer_argmax_f32_i32 (F := Ideal) (x, i) (y, j) = (y, j) := by
      have h₁ : ¬ y < x := not_lt.mpr h.le
      simp [reducer_argmax_f32_i32, Ideal.cmpf_def, Ideal.cmp, h₁, h.ne, IntOp.ori, IntOp.andi, Scalar.select]
    rw [e]
    exact ⟨Or.inr _root_.rfl, ⟨h.le, fun e => absurd e h.ne⟩, Beats.rfl _⟩
  · subst h
    by_cases hij : i.toInt < j.toInt
    · have e : reducer_argmax_f32_i32 (F := Ideal) (x, i) (x, j) = (x, i) := by
        simp [reducer_argmax_f32_i32, Ideal.cmpf_def, Ideal.cmp, IntOp.ori, IntOp.andi, IntOp.cmpi, BitVec.slt, hij, Scalar.select]
      rw [e]
      exact ⟨Or.inl _root_.rfl, Beats.rfl _, ⟨le_refl _, fun _ => hij.le⟩⟩
    · have e : reducer_argmax_f32_i32 (F := Ideal) (x, i) (x, j) = (x, j) := by
        simp [reducer_argmax_f32_i32, Ideal.cmpf_def, Ideal.cmp, IntOp.ori, IntOp.andi, IntOp.cmpi, BitVec.slt, hij, Scalar.select]
      rw [e]
      exact ⟨Or.inr _root_.rfl, ⟨le_refl _, fun _ => not_lt.mp hij⟩, Beats.rfl _⟩
  · have e : reducer_argmax_f32_i32 (F := Ideal) (x, i) (y, j) = (x, i) := by
      simp [reducer_argmax_f32_i32, Ideal.cmpf_def, Ideal.cmp, h, h.ne', IntOp.ori, IntOp.andi, Scalar.select]
    rw [e]
    exact ⟨Or.inl _root_.rfl, Beats.rfl _, ⟨h.le, fun e => absurd e h.ne⟩⟩

/-- Folding the step over a list ends at the starting pair or a member, and that one beats the start and every member. -/
theorem fold (L : List (Ideal .f32 × BitVec 32)) : ∀ z : Ideal .f32 × BitVec 32,
    (L.foldl reducer_argmax_f32_i32 z = z ∨ L.foldl reducer_argmax_f32_i32 z ∈ L)
      ∧ Beats (L.foldl reducer_argmax_f32_i32 z) z ∧ ∀ q ∈ L, Beats (L.foldl reducer_argmax_f32_i32 z) q := by
  induction L with
  | nil => exact fun z => ⟨Or.inl _root_.rfl, Beats.rfl z, fun q hq => absurd hq List.not_mem_nil⟩
  | cons a L ih =>
    intro z
    obtain ⟨hm, hz, hL⟩ := ih (reducer_argmax_f32_i32 z a)
    obtain ⟨hs, hsz, hsa⟩ := step z a
    rw [List.foldl_cons]
    refine ⟨?_, hz.trans hsz, fun q hq => ?_⟩
    · rcases hm with hm | hm
      · rcases hs with hs | hs
        · exact Or.inl (hm.trans hs)
        · exact Or.inr (List.mem_cons.mpr (Or.inl (hm.trans hs)))
      · exact Or.inr (List.mem_cons_of_mem a hm)
    · rcases List.mem_cons.mp hq with rfl | hq
      · exact hz.trans hsa
      · exact hL q hq

/-- A row number below 8192 read back from its word. -/
theorem toInt_row {c : ℕ} (hc : c < 8192) : (BitVec.ofNat 32 c).toInt = (c : ℤ) := by
  rw [BitVec.toInt_eq_toNat_of_lt (by rw [BitVec.toNat_ofNat]; omega), BitVec.toNat_ofNat, Nat.mod_eq_of_lt (by omega)]

section
variable {axes : List (Fin S8192x8192.rank)} (h : S8192x8192.ReducesTo axes S8192)
variable (x : Vec Ideal S8192x8192 .f32) (y : S8192x8192.Idx → BitVec 32)

/-- Reducing along the second coordinate leaves the first. -/
theorem drop_row (ha : axes = [1]) (i : S8192x8192.Idx) : h.drop i = ix1 (i 0) := by
  subst ha
  funext a
  apply Fin.ext
  match a with
  | ⟨0, _⟩ => rfl

/-- The pairs met at row `R` are the entries of row `R`, each with its place. -/
theorem mem_row (ha : axes = [1]) (hy : ∀ r c : Fin 8192, y (ix2 r c) = BitVec.ofNat 32 c.val) (R : Fin 8192) (p : Ideal .f32 × BitVec 32) :
    p ∈ Host.argReduceFiber x y h (ix1 R) ↔ ∃ c : Fin 8192, p = (x (ix2 R c), BitVec.ofNat 32 c.val) := by
  unfold Host.argReduceFiber
  rw [List.mem_map]
  constructor
  · rintro ⟨n, hn, rfl⟩
    have hd := of_decide_eq_true (List.mem_filter.mp hn).2
    obtain ⟨r, c, hi⟩ : ∃ (r c : Fin 8192), S8192x8192.rowMajor.symm n = ix2 r c := ⟨_, _, eq_ix2 _⟩
    rw [hi] at hd ⊢
    have hr : r = R := congrFun ((drop_row h ha _).symm.trans hd) 0
    exact ⟨c, by rw [hr, hy]⟩
  · rintro ⟨c, rfl⟩
    refine ⟨S8192x8192.rowMajor (ix2 R c), List.mem_filter.mpr ⟨List.mem_finRange _, decide_eq_true ?_⟩, ?_⟩
    · rw [Equiv.symm_apply_apply]
      exact drop_row h ha _
    · rw [Equiv.symm_apply_apply, hy]

/-- The reference's place at row `R`, started below every number, is the first place of the row's greatest entry. -/
theorem place_first {u : Shape} (ix : u.Idx → Ideal .f32) (iy : u.Idx → BitVec 32) (hu : 0 < u.numel) (ha : axes = [1])
    (hy : ∀ r c : Fin 8192, y (ix2 r c) = BitVec.ofNat 32 c.val) (hix : ∀ i, (ix i : EReal) = ⊥) (hiy : ∀ i, iy i = 0#32)
    (g : ℕ → EReal) (R : Fin 8192) (hg : ∀ c : Fin 8192, (x (ix2 R c) : EReal) = g c.val) {k : ℕ} (hk : IsFirst g 8192 k)
    {b : BitVec 32} (hb : b = BitVec.ofNat 32 k) :
    (Host.argReduce (F := Ideal) reducer_argmax_f32_i32 x y ix iy h hu (ix1 R)).2 = b := by
  rw [Ideal.argReduce_eq_reduce2, Host.reduce2_eq_foldl_fiber]
  obtain ⟨hm, -, hL⟩ := fold (Host.argReduceFiber x y h (ix1 R)) (ix (Shape.Idx.first hu), iy (Shape.Idx.first hu))
  generalize List.foldl (reducer_argmax_f32_i32 (F := Ideal)) _ _ = p at hm hL ⊢
  have hL' : ∀ c : Fin 8192, Beats p (x (ix2 R c), BitVec.ofNat 32 c.val) := fun c => hL _ ((mem_row h x y ha hy R _).mpr ⟨c, rfl⟩)
  obtain ⟨l, h₁, h₂⟩ : ∃ l : Fin 8192, (p.1 : EReal) = g l.val ∧ p.2 = BitVec.ofNat 32 l.val := by
    rcases hm with hm | hm
    · have h₁ : (p.1 : EReal) = ⊥ := (congrArg Prod.fst hm).trans (hix _)
      refine ⟨0, ?_, (congrArg Prod.snd hm).trans (hiy _)⟩
      have := (hL' 0).1
      rw [hg, h₁] at this
      exact h₁.trans (le_bot_iff.mp this).symm
    · obtain ⟨c, hc⟩ := (mem_row h x y ha hy R p).mp hm
      exact ⟨c, (congrArg Prod.fst hc).trans (hg c), congrArg Prod.snd hc⟩
  have hl : IsFirst g 8192 l.val := by
    refine ⟨l.isLt, fun j hj => ?_, fun j hj e => ?_⟩
    · have := (hL' ⟨j, hj⟩).1
      rwa [hg, h₁] at this
    · have := (hL' ⟨j, hj⟩).2 ((hg _).trans (e.trans h₁.symm))
      rw [h₂, toInt_row hj, toInt_row l.isLt] at this
      exact_mod_cast this
  rw [h₂, hb, hl.unique hk]

end

/-- The reference's fold starts below every number. -/
theorem start_bot (i : S_.Idx) : (constant (F := Ideal) S_ .f32 0xFF800000#32 i : EReal) = ⊥ := by
  show FloatOps.ofBits (F := Ideal) .f32 0xFF800000#32 = (⊥ : EReal)
  rw [Ideal.ofBits_def]
  simp [Ideal.ofBits, Ideal.ieee]

/-- The reference's scores are a plain product. -/
theorem dot_eq : dot_S8192x32_S32x8192_S8192x8192_1_0_0_1_n_n = DotDims.plain 8192 32 8192 := rfl

/-- The reference's score of row `R` of `x` against row `c` of `y` is the sum of the products of their entries. -/
theorem score_apply (x y : Vec Ideal S8192x32 .f32) (R c : Fin 8192) :
    (Host.dotGeneral (F := Ideal) (φ₁ := .f32) (φ₂ := .f32) dot_S8192x32_S32x8192_S8192x8192_1_0_0_1_n_n none x
      (transpose S32x8192 [1, 0] y transposes_S8192x32_S32x8192_1_0) (ix2 R c) : EReal)
      = ∑ k : Fin 32, (x (ix2 R k) : EReal) * (y (ix2 c k) : EReal) := by
  rw [dot_eq]
  refine (StackMember.dotGeneral_plain_apply none x _ R c).trans (Finset.sum_congr rfl fun k _ => ?_)
  refine congrArg (fun z : EReal => (x (ix2 R k) : EReal) * z) (congrArg y ?_)
  funext a
  apply Fin.ext
  match a with
  | ⟨0, _⟩ => rfl
  | ⟨1, _⟩ => rfl

end Cert.Argmax

end
-- ==== Proof.Equation.lean ====
/-
  The launch's result array is the reference's.
-/
module

public import proofs.«01_k».proof.Proof.Scores
public import proofs.«01_k».proof.Proof.Argmax

@[expose] public section

noncomputable section

namespace Cert.Equation

open Idealize.ShloMosaic Idealize.ShloMosaic.ValueIdx
open Cert.First

/-- A score of the reference is the score the launch's rows are compared by. -/
theorem scores_agree (x y : Vec Ideal Cert.ReferenceIdeal.S8192x32 .f32) (R c : Fin 8192) :
    (∑ k : Fin 32, (x (ix2 R k) : EReal) * (y (ix2 c k) : EReal)) = Scan.against x y R c.val := by
  have hc : (⟨c.val % 8192, Nat.mod_lt _ (by decide)⟩ : Fin 8192) = c := Fin.ext (Nat.mod_eq_of_lt c.isLt)
  unfold Scan.against
  rw [hc]

/-- For the same two arrays, what the reference leaves for row `R` is what the launch leaves: each is the first place of the
    greatest score. -/
theorem row_eq (x y : Vec Ideal Cert.ReferenceIdeal.S8192x32 .f32) (R : Fin 8192) :
    (Host.argReduce (F := Ideal) Cert.ReferenceIdeal.reducer_argmax_f32_i32
      (Host.dotGeneral (F := Ideal) (φ₁ := .f32) (φ₂ := .f32) Cert.ReferenceIdeal.dot_S8192x32_S32x8192_S8192x8192_1_0_0_1_n_n none x
        (transpose Cert.ReferenceIdeal.S32x8192 [1, 0] y Cert.ReferenceIdeal.Gen.transposes_S8192x32_S32x8192_1_0))
      (iotaInDim Cert.ReferenceIdeal.S8192x8192 32 1) (constant Cert.ReferenceIdeal.S_ .f32 0xFF800000#32)
      (constantI Cert.ReferenceIdeal.S_ 32 0#32) Cert.ReferenceIdeal.Gen.reducesTo_S8192x8192_S8192_d1 Cert.ReferenceIdeal.Gen.h_S_ (ix1 R)).2
      = Cert.KernelIdeal.Gen.result x y (ix1 R) := by
  obtain ⟨k, hk, ek⟩ := Scan.result_first x y R
  exact Argmax.place_first _ _ _ _ _ _ rfl (fun _ _ => rfl) Argmax.start_bot (fun _ => rfl) (Scan.against x y R) R
    (fun c => (Argmax.score_apply x y R c).trans (scores_agree x y R c)) hk ek

end Cert.Equation

end
-- ==== Proof.lean ====
/-
  The certificate: each program runs to its end, leaves its arguments as they were and its semaphores at zero; the
  idealised kernel is the kernel's own text; and at exact arithmetic the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.SameText
public import proofs.«01_k».proof.Proof.Equation
public import Idealize.ShloMosaic.Adequacy
public import Idealize.ShloMosaic.Init

@[expose] public section

noncomputable section

namespace Cert.Proof

open Idealize.ShloMosaic Idealize.SL.Sem

/-- At machine floats the kernel runs, and ends as its frame claims. -/
theorem kernel_frame : Cert.quiescent_Kernel := fun m ρ _ => Cert.SameText.run_frame m ρ

/-- The idealised kernel runs, and ends as its frame claims. -/
theorem ideal_frame : Cert.quiescent_KernelIdeal := fun m ρ _ =>
  θ_run_mono (Cert.KernelIdeal.Gen.run_value m ρ) fun r hr => ⟨fun c => (hr.1 c).2, hr.2⟩

/-- The reference runs, and ends as its frame claims. -/
theorem reference_frame : Cert.quiescent_ReferenceIdeal := by
  intro m ρ _
  hlo_run
  · exact fun _ => ⟨trivial, trivial⟩
  · exact sem_eq_zero_of_no_sems (by decide) r.2

/-- From the same arguments the idealised kernel and the reference end with the same result. -/
theorem same_result : Cert.algebraic_KernelIdeal_ReferenceIdeal := by
  pair_intro
  · run_from Cert.KernelIdeal.Gen.run_value m g
  · hlo_run
    simp -implicitDefEqProofs only [StableHlo.TRef.toBuf, StableHlo.TRef.ofBuf, cast_cast, cast_eq]
    funext j
    obtain ⟨R, rfl⟩ : ∃ R : Fin 8192, j = ValueIdx.ix1 R := ⟨_, ValueIdx.eq_ix1 j⟩
    exact Cert.Equation.row_eq _ _ R

/-- Every claim of the certificate. -/
theorem claim : Cert.Claim := ⟨Cert.Kernel.Gen.facts, Cert.KernelIdeal.Gen.facts, Cert.ReferenceIdeal.Gen.facts,
  kernel_frame, ideal_frame, reference_frame, trivial, same_result⟩

end Cert.Proof

end
